-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_average_temperature_zero [hPre_average_temperature_zero : Cert.Pre_average_temperature_zero.Facts] (m : (ℓ : Loc Cert.KernelIdeal.nD Cert.KernelIdeal.τ Cert.KernelIdeal.sig) → Buf (Elt Ideal) ℓ) : Prop :=
  ∀ c : Dev Cert.KernelIdeal.nD,
    (Cert.Pre_average_temperature_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_average_temperature_zero [hPre_average_temperature_zero : Cert.Pre_average_temperature_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_average_temperature_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_average_temperature_zero [hKernelIdeal : Cert.KernelIdeal.Facts] [hPre_average_temperature_zero : Cert.Pre_average_temperature_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_average_temperature_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_average_temperature_zero [hReferenceIdeal : Cert.ReferenceIdeal.Facts] [hPre_average_temperature_zero : Cert.Pre_average_temperature_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_average_temperature_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "quarter" .f32 0x3E800000#32 ((151115727451828646838272 / 604462909807314602464661 : ℝ) : EReal)

def algebraic_KernelIdeal_ReferenceIdeal_pre_average_temperature_zero [hKernelIdeal : Cert.KernelIdeal.Facts] [hReferenceIdeal : Cert.ReferenceIdeal.Facts] [hPre_average_temperature_zero : Cert.Pre_average_temperature_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_average_temperature_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_average_temperature_zero : Cert.Pre_average_temperature_zero.Facts),
    quiescent_Kernel (hKernel := hKernel)
    ∧ quiescent_KernelIdeal (hKernelIdeal := hKernelIdeal)
    ∧ quiescent_KernelIdeal_pre_average_temperature_zero (hKernelIdeal := hKernelIdeal) (hPre_average_temperature_zero := hPre_average_temperature_zero)
    ∧ quiescent_ReferenceIdeal (hReferenceIdeal := hReferenceIdeal)
    ∧ quiescent_ReferenceIdeal_pre_average_temperature_zero (hReferenceIdeal := hReferenceIdeal) (hPre_average_temperature_zero := hPre_average_temperature_zero)
    ∧ preserves_Kernel_KernelIdeal
    ∧ algebraic_KernelIdeal_ReferenceIdeal_pre_average_temperature_zero (hKernelIdeal := hKernelIdeal) (hReferenceIdeal := hReferenceIdeal) (hPre_average_temperature_zero := hPre_average_temperature_zero)
-- ==== Pre_average_temperature_zero.lean ====
abbrev S200000x4x3 : Shape := ⟨3, ![200000, 4, 3]⟩
abbrev S4x8 : Shape := ⟨2, ![4, 8]⟩
abbrev S11x64 : Shape := ⟨2, ![11, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S200000x4x3 .f32) (main_arg1 : FVec F S4x8 .f32) (main_arg2 : FVec F S11x64 .f32) (main_arg3 : FVec F S64 .f32) (main_arg4 : FVec F S64x32 .f32) (main_arg5 : FVec F S32 .f32) (main_arg6 : FVec F S32 .f32) (main_arg7 : FVec F S32 .f32) : IVec S32 1 :=
  let main_cst : FVec F S_ .f32 := constant S_ .f32 0x00000000#32
  let main_v0 : FVec F S32 .f32 := broadcastInDim S32 ![] bcast_S_S32 main_cst
  let main_v1 : IVec S32 1 := cmpf .oeq main_arg7 main_v0
  main_v1
-- ==== Kernel.lean ====
abbrev S200000x4x3 : Shape := ⟨3, ![200000, 4, 3]⟩
abbrev S4x8 : Shape := ⟨2, ![4, 8]⟩
abbrev S11x64 : Shape := ⟨2, ![11, 64]⟩
abbrev S64 : Shape := ⟨1, ![64]⟩
abbrev S64x32 : Shape := ⟨2, ![64, 32]⟩
abbrev S32 : Shape := ⟨1, ![32]⟩
abbrev S200000x12 : Shape := ⟨2, ![200000, 12]⟩
abbrev S4x4 : Shape := ⟨2, ![4, 4]⟩
abbrev S_ : Shape := ⟨0, ![]⟩
abbrev S3x64 : Shape := ⟨2, ![3, 64]⟩
abbrev S4x1x4x1 : Shape := ⟨4, ![4, 1, 4, 1]⟩
abbrev S1x3x1x64 : Shape := ⟨4, ![1, 3, 1, 64]⟩
abbrev S4x3x4x64 : Shape := ⟨4, ![4, 3, 4, 64]⟩
abbrev S12x256 : Shape := ⟨2, ![12, 256]⟩
abbrev S8x64 : Shape := ⟨2, ![8, 64]⟩
abbrev S4x64 : Shape := ⟨2, ![4, 64]⟩
abbrev S1x64 : Shape := ⟨2, ![1, 64]⟩
abbrev S1x256 : Shape := ⟨2, ![1, 256]⟩
abbrev S1x64x1x32 : Shape := ⟨4, ![1, 64, 1, 32]⟩
abbrev S4x64x4x32 : Shape := ⟨4, ![4, 64, 4, 32]⟩
abbrev S256x128 : Shape := ⟨2, ![256, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4x1 : Shape := ⟨2, ![4, 1]⟩
abbrev S32x32 : Shape := ⟨2, ![32, 32]⟩
abbrev S4x1x1x1 : Shape := ⟨4, ![4, 1, 1, 1]⟩
abbrev S1x32x1x32 : Shape := ⟨4, ![1, 32, 1, 32]⟩
abbrev S4x32x1x32 : Shape := ⟨4, ![4, 32, 1, 32]⟩
abbrev S128x32 : Shape := ⟨2, ![128, 32]⟩
abbrev S200000x32 : Shape := ⟨2, ![200000, 32]⟩
abbrev S8000x12 : Shape := ⟨2, ![8000, 12]⟩
abbrev S8000x32 : Shape := ⟨2, ![8000, 32]⟩
abbrev S8000x256 : Shape := ⟨2, ![8000, 256]⟩
abbrev S8000x128 : Shape := ⟨2, ![8000, 128]⟩

abbrev nBuf : Space → Nat
  | .hbm => 62
  | .vmem => 10
  | .smem => 0
  | _ => 0

abbrev bufTy : (tb : Table) → Fin (tcTables nBuf tb) → BufTy
  | .hbm, ⟨0, _⟩ => ⟨S200000x4x3, .f32⟩
  | .hbm, ⟨1, _⟩ => ⟨S4x8, .f32⟩
  | .hbm, ⟨2, _⟩ => ⟨S11x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S200000x12, .f32⟩
  | .hbm, ⟨9, _⟩ => ⟨S200000x12, .bf16⟩
  | .hbm, ⟨10, _⟩ => ⟨S4x4, .i32⟩
  | .hbm, ⟨11, _⟩ => ⟨S4x4, .i32⟩
  | .hbm, ⟨12, _⟩ => ⟨S_, .i32⟩
  | .hbm, ⟨13, _⟩ => ⟨S4x4, .i32⟩
  | .hbm, ⟨14, _⟩ => ⟨S4x4, .i32⟩
  | .hbm, ⟨15, _⟩ => ⟨S4x4, .i1⟩
  | .hbm, ⟨16, _⟩ => ⟨S4x4, .f32⟩
  | .hbm, ⟨17, _⟩ => ⟨S3x64, .f32⟩
  | .hbm, ⟨18, _⟩ => ⟨S4x1x4x1, .f32⟩
  | .hbm, ⟨19, _⟩ => ⟨S1x3x1x64, .f32⟩
  | .hbm, ⟨20, _⟩ => ⟨S4x3x4x64, .f32⟩
  | .hbm, ⟨21, _⟩ => ⟨S4x3x4x64, .f32⟩
  | .hbm, ⟨22, _⟩ => ⟨S4x3x4x64, .f32⟩
  | .hbm, ⟨23, _⟩ => ⟨S12x256, .f32⟩
  | .hbm, ⟨24, _⟩ => ⟨S12x256, .bf16⟩
  | .hbm, ⟨25, _⟩ => ⟨S8x64, .f32⟩
  | .hbm, ⟨26, _⟩ => ⟨S4x64, .f32⟩
  | .hbm, ⟨27, _⟩ => ⟨S1x64, .f32⟩
  | .hbm, ⟨28, _⟩ => ⟨S4x64, .f32⟩
  | .hbm, ⟨29, _⟩ => ⟨S4x64, .f32⟩
  | .hbm, ⟨30, _⟩ => ⟨S1x256, .f32⟩
  | .hbm, ⟨31, _⟩ => ⟨S4x1x4x1, .f32⟩
  | .hbm, ⟨32, _⟩ => ⟨S1x64x1x32, .f32⟩
  | .hbm, ⟨33, _⟩ => ⟨S4x64x4x32, .f32⟩
  | .hbm, ⟨34, _⟩ => ⟨S4x64x4x32, .f32⟩
  | .hbm, ⟨35, _⟩ => ⟨S4x64x4x32, .f32⟩
  | .hbm, ⟨36, _⟩ => ⟨S256x128, .f32⟩
  | .hbm, ⟨37, _⟩ => ⟨S256x128, .bf16⟩
  | .hbm, ⟨38, _⟩ => ⟨S1x32, .f32⟩
  | .hbm, ⟨39, _⟩ => ⟨S4x32, .f32⟩
  | .hbm, ⟨40, _⟩ => ⟨S128, .f32⟩
  | .hbm, ⟨41, _⟩ => ⟨S1x128, .f32⟩
  | .hbm, ⟨42, _⟩ => ⟨S1x32, .f32⟩
  | .hbm, ⟨43, _⟩ => ⟨S4x32, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S4x1, .f32⟩
  | .hbm, ⟨48, _⟩ => ⟨S32x32, .i32⟩
  | .hbm, ⟨49, _⟩ => ⟨S32x32, .i32⟩
  | .hbm, ⟨50, _⟩ => ⟨S_, .i32⟩
  | .hbm, ⟨51, _⟩ => ⟨S32x32, .i32⟩
  | .hbm, ⟨52, _⟩ => ⟨S32x32, .i32⟩
  | .hbm, ⟨53, _⟩ => ⟨S32x32, .i1⟩
  | .hbm, ⟨54, _⟩ => ⟨S32x32, .f32⟩
  | .hbm, ⟨55, _⟩ => ⟨S4x1x1x1, .f32⟩
  | .hbm, ⟨56, _⟩ => ⟨S1x32x1x32, .f32⟩
  | .hbm, ⟨57, _⟩ => ⟨S4x32x1x32, .f32⟩
  | .hbm, ⟨58, _⟩ => ⟨S4x32x1x32, .f32⟩
  | .hbm, ⟨59, _⟩ => ⟨S4x32x1x32, .f32⟩
  | .hbm, ⟨60, _⟩ => ⟨S128x32, .f32⟩
  | .hbm, ⟨61, _⟩ => ⟨S200000x32, .f32⟩
  | .local _ .vmem, ⟨0, _⟩ => ⟨S8000x12, .bf16⟩
  | .local _ .vmem, ⟨1, _⟩ => ⟨S8000x12, .bf16⟩
  | .local _ .vmem, ⟨2, _⟩ => ⟨S12x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S1x128, .f32⟩
  | .local _ .vmem, ⟨7, _⟩ => ⟨S128x32, .f32⟩
  | .local _ .vmem, ⟨8, _⟩ => ⟨S8000x32, .f32⟩
  | .local _ .vmem, ⟨9, _⟩ => ⟨S8000x32, .f32⟩
  | _, _ => ⟨S200000x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v34 : Ref sig .tc := ⟨.hbm, 60, rfl⟩
abbrev main_v35 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x12 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "quarter" => some ((151115727451828646838272 / 604462909807314602464661 : ℝ) : EReal)
  | _ => none
-- ==== ReferenceIdeal.lean ====
abbrev S200000x4x3 : Shape := ⟨3, ![200000, 4, 3]⟩
abbrev S4x8 : Shape := ⟨2, ![4, 8]⟩
abbrev S11x64 : Shape := ⟨2, ![11, 64]⟩
abbrev S64 : Shape := ⟨1, ![64]⟩
abbrev S64x32 : Shape := ⟨2, ![64, 32]⟩
abbrev S32 : Shape := ⟨1, ![32]⟩
abbrev S1x4x8 : Shape := ⟨3, ![1, 4, 8]⟩
abbrev S200000x4x8 : Shape := ⟨3, ![200000, 4, 8]⟩
abbrev S200000x4x11 : Shape := ⟨3, ![200000, 4, 11]⟩
abbrev S200000x4x64 : Shape := ⟨3, ![200000, 4, 64]⟩
abbrev S1x1x64 : Shape := ⟨3, ![1, 1, 64]⟩
abbrev S_ : Shape := ⟨0, ![]⟩
abbrev S200000x4x32 : Shape := ⟨3, ![200000, 4, 32]⟩
abbrev S1x1x32 : Shape := ⟨3, ![1, 1, 32]⟩
abbrev S200000x32 : Shape := ⟨2, ![200000, 32]⟩
abbrev S200000x1x32 : Shape := ⟨3, ![200000, 1, 32]⟩

abbrev nBuf : Space → Nat
  | .hbm => 63
  | .vmem => 0
  | .smem => 0
  | _ => 0

abbrev bufTy : (tb : Table) → Fin (tcTables nBuf tb) → BufTy
  | .hbm, ⟨0, _⟩ => ⟨S200000x4x3, .f32⟩
  | .hbm, ⟨1, _⟩ => ⟨S4x8, .f32⟩
  | .hbm, ⟨2, _⟩ => ⟨S11x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S1x4x8, .f32⟩
  | .hbm, ⟨9, _⟩ => ⟨S200000x4x8, .f32⟩
  | .hbm, ⟨10, _⟩ => ⟨S200000x4x11, .f32⟩
  | .hbm, ⟨11, _⟩ => ⟨S200000x4x64, .f32⟩
  | .hbm, ⟨12, _⟩ => ⟨S1x1x64, .f32⟩
  | .hbm, ⟨13, _⟩ => ⟨S200000x4x64, .f32⟩
  | .hbm, ⟨14, _⟩ => ⟨S200000x4x64, .f32⟩
  | .hbm, ⟨15, _⟩ => ⟨S_, .f32⟩
  | .hbm, ⟨16, _⟩ => ⟨S200000x4x64, .f32⟩
  | .hbm, ⟨17, _⟩ => ⟨S200000x4x64, .f32⟩
  | .hbm, ⟨18, _⟩ => ⟨S200000x4x32, .f32⟩
  | .hbm, ⟨19, _⟩ => ⟨S1x1x32, .f32⟩
  | .hbm, ⟨20, _⟩ => ⟨S200000x4x32, .f32⟩
  | .hbm, ⟨21, _⟩ => ⟨S200000x4x32, .f32⟩
  | .hbm, ⟨22, _⟩ => ⟨S1x1x32, .f32⟩
  | .hbm, ⟨23, _⟩ => ⟨S200000x4x32, .f32⟩
  | .hbm, ⟨24, _⟩ => ⟨S200000x4x32, .f32⟩
  | .hbm, ⟨25, _⟩ => ⟨S_, .f32⟩
  | .hbm, ⟨26, _⟩ => ⟨S200000x32, .f32⟩
  | .hbm, ⟨27, _⟩ => ⟨S200000x1x32, .f32⟩
  | .hbm, ⟨28, _⟩ => ⟨S200000x4x32, .f32⟩
  | .hbm, ⟨29, _⟩ => ⟨S200000x4x32, .f32⟩
  | .hbm, ⟨30, _⟩ => ⟨S200000x4x32, .f32⟩
  | .hbm, ⟨31, _⟩ => ⟨S_, .f32⟩
  | .hbm, ⟨32, _⟩ => ⟨S200000x32, .f32⟩
  | .hbm, ⟨33, _⟩ => ⟨S200000x1x32, .f32⟩
  | .hbm, ⟨34, _⟩ => ⟨S_, .f32⟩
  | .hbm, ⟨35, _⟩ => ⟨S200000x1x32, .f32⟩
  | .hbm, ⟨36, _⟩ => ⟨S200000x1x32, .f32⟩
  | .hbm, ⟨37, _⟩ => ⟨S200000x4x32, .f32⟩
  | .hbm, ⟨38, _⟩ => ⟨S200000x4x32, .f32⟩
  | .hbm, ⟨39, _⟩ => ⟨S200000x4x32, .f32⟩
  | .hbm, ⟨40, _⟩ => ⟨S_, .f32⟩
  | .hbm, ⟨41, _⟩ => ⟨S200000x32, .f32⟩
  | .hbm, ⟨42, _⟩ => ⟨S1x1x32, .f32⟩
  | .hbm, ⟨43, _⟩ => ⟨S200000x4x32, .f32⟩
  | .hbm, ⟨44, _⟩ => ⟨S200000x4x32, .f32⟩
  | .hbm, ⟨45, _⟩ => ⟨S_, .f32⟩
  | .hbm, ⟨46, _⟩ => ⟨S200000x32, .f32⟩
  | .hbm, ⟨47, _⟩ => ⟨S200000x1x32, .f32⟩
  | .hbm, ⟨48, _⟩ => ⟨S200000x4x32, .f32⟩
  | .hbm, ⟨49, _⟩ => ⟨S200000x4x32, .f32⟩
  | .hbm, ⟨50, _⟩ => ⟨S200000x4x32, .f32⟩
  | .hbm, ⟨51, _⟩ => ⟨S_, .f32⟩
  | .hbm, ⟨52, _⟩ => ⟨S200000x32, .f32⟩
  | .hbm, ⟨53, _⟩ => ⟨S200000x1x32, .f32⟩
  | .hbm, ⟨54, _⟩ => ⟨S_, .f32⟩
  | .hbm, ⟨55, _⟩ => ⟨S200000x1x32, .f32⟩
  | .hbm, ⟨56, _⟩ => ⟨S200000x1x32, .f32⟩
  | .hbm, ⟨57, _⟩ => ⟨S200000x4x32, .f32⟩
  | .hbm, ⟨58, _⟩ => ⟨S200000x4x32, .f32⟩
  | .hbm, ⟨59, _⟩ => ⟨S200000x4x32, .f32⟩
  | .hbm, ⟨60, _⟩ => ⟨S_, .f32⟩
  | .hbm, ⟨61, _⟩ => ⟨S200000x32, .f32⟩
  | .hbm, ⟨62, _⟩ => ⟨S200000x32, .f32⟩
  | _, _ => ⟨S200000x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.Model.lean ====
/- The mathematics that kernel and reference share, over the extended reals: a node's four neighbours pass through a
   two-layer perceptron, and each output channel of the four is averaged twice, once with softmax weights and once with
   equal ones. Nothing here mentions either program. -/
module

public import Idealize.ShloMosaic.Lib.Pointwise

@[expose] public section

set_option maxRecDepth 16384

noncomputable section

namespace Cert.Model

open Idealize.ShloMosaic

/-- The small constant that both programs add to a softmax's denominator, as the real that its float word denotes. -/
def eps : EReal := ((15111573 / 151115727451828646838272 : ℝ) : EReal)

/-- The weight of one of four equal neighbours under that constant: `1 / (4 + eps)`. -/
def quarter : EReal := ((151115727451828646838272 / 604462909807314602464661 : ℝ) : EReal)

/-- The float word of `1e-16` denotes `eps`. -/
theorem ofBits_eps : Ideal.ofBits .f32 0x24E69595#32 = eps := by
  simp [Ideal.ofBits, Ideal.ieee, eps, -EReal.coe_mul]; norm_num

/-- The float word of `-∞` denotes the least extended real. -/
theorem ofBits_neg_inf : Ideal.ofBits .f32 0xFF800000#32 = ⊥ := by
  simp [Ideal.ofBits, Ideal.ieee]

theorem eps_pos : 0 < eps := by
  unfold eps; exact_mod_cast (by norm_num : (0 : ℝ) < 15111573 / 151115727451828646838272)

/-- A hidden unit of one neighbour: the rectified sum of its own three features' part, the position embedding's part and
    the bias. -/
def hidden (x : Fin 3 → EReal) (pe : Fin 8 → EReal) (w1 : Fin 11 → Fin 64 → EReal) (b1 : Fin 64 → EReal) (u : Fin 64) : EReal :=
  max ((∑ d : Fin 3, x d * w1 ⟨d.val, by omega⟩ u) + ((∑ q : Fin 8, pe q * w1 ⟨3 + q.val, by omega⟩ u) + b1 u)) 0

/-- One output channel of one neighbour. -/
def feat (h : Fin 64 → EReal) (w2 : Fin 64 → EReal) (b2 : EReal) : EReal := (∑ u, h u * w2 u) + b2

/-- The largest of the four scores `f p * t`. -/
def top (f : Fin 4 → EReal) (t : EReal) : EReal := Finset.univ.fold max ⊥ fun p => f p * t

/-- A neighbour's unnormalised softmax weight. -/
def wt (f : Fin 4 → EReal) (t : EReal) (p : Fin 4) : EReal := Ideal.exp (f p * t - top f t)

/-- The sum of the four weights, kept off zero. -/
def den (f : Fin 4 → EReal) (t : EReal) : EReal := (∑ p, wt f t p) + eps

/-- The softmax aggregation of the four features at temperature `t`. -/
def agg (f : Fin 4 → EReal) (t : EReal) : EReal := ∑ p, f p * Ideal.div (wt f t p) (den f t)

/-- What one result element is: the aggregation at temperature `t`, plus the plain average. -/
def pooled (f : Fin 4 → EReal) (t : EReal) : EReal := ∑ p, (Ideal.div (f p * wt f t p) (den f t) + f p * quarter)

/-- The exponential of an extended real is never negative. -/
theorem exp_nonneg (x : EReal) : 0 ≤ Ideal.exp x := by
  induction x with
  | bot => exact le_refl (0 : EReal)
  | coe r => exact EReal.coe_nonneg.mpr (Real.exp_pos r).le
  | top => exact le_top

/-- A softmax's denominator is positive. -/
theorem den_pos (f : Fin 4 → EReal) (t : EReal) : 0 < den f t :=
  lt_of_lt_of_le eps_pos (le_add_of_nonneg_left (Finset.sum_nonneg fun _ _ => exp_nonneg _))

/-- Off zero a quotient of a product is the product with the quotient, on all extended reals. -/
theorem div_mul (a b d : EReal) (hd : d ≠ 0) : Ideal.div (a * b) d = a * Ideal.div b d := by
  simp only [Ideal.div, if_neg hd, mul_assoc]

/-- At temperature zero every score is zero, whatever the features are, so every neighbour has the weight one. -/
theorem wt_zero (f : Fin 4 → EReal) (p : Fin 4) : wt f 0 p = 1 := by
  have h : top f 0 = 0 := by
    simp [top, Fin.univ_succ]
  rw [wt, h, mul_zero, sub_zero]
  show ((Real.exp 0 : ℝ) : EReal) = 1
  simp

/-- At temperature zero each neighbour's share is the average's. -/
theorem share_zero (f : Fin 4 → EReal) (p : Fin 4) : Ideal.div (wt f 0 p) (den f 0) = quarter := by
  have h : den f 0 = ((604462909807314602464661 / 151115727451828646838272 : ℝ) : EReal) := by
    simp only [den, wt_zero, Finset.sum_const, Finset.card_univ, Fintype.card_fin, eps]
    rw [← EReal.coe_one, ← EReal.coe_nsmul, ← EReal.coe_add]
    norm_num
  rw [h, wt_zero, Ideal.div_coe (by norm_num), one_mul, quarter]
  norm_num

/-- The two aggregations, the second at temperature zero, are the softmax aggregation plus the plain average. -/
theorem agg_add_agg_zero (f : Fin 4 → EReal) (t : EReal) : agg f t + agg f 0 = pooled f t := by
  simp only [agg, pooled, ← Finset.sum_add_distrib, share_zero]
  exact Finset.sum_congr rfl fun p _ => by rw [div_mul _ _ _ (den_pos f t).ne']

/-- A block-diagonal row of weights picks its block: summed over `J` blocks of `T` terms, of which block `p` alone has
    weights, only that block's terms remain, infinite terms included. -/
theorem sum_blockdiag {N : ℕ} (J T : ℕ) (hN : J * T = N) (p : Fin J) (g w : Fin N → EReal)
    (hw : ∀ (j : Fin J) (t : Fin T) (h : j.val * T + t.val < N), j ≠ p → w ⟨j.val * T + t.val, h⟩ = 0) :
    ∑ k, g k * w k = ∑ t : Fin T, g ⟨p.val * T + t.val, by
        have := p.isLt; have := t.isLt; subst hN
        calc p.val * T + t.val < (p.val + 1) * T := by rw [Nat.add_mul, Nat.one_mul]; omega
          _ ≤ J * T := Nat.mul_le_mul_right _ (by omega)⟩
      * w ⟨p.val * T + t.val, by
        have := p.isLt; have := t.isLt; subst hN
        calc p.val * T + t.val < (p.val + 1) * T := by rw [Nat.add_mul, Nat.one_mul]; omega
          _ ≤ J * T := Nat.mul_le_mul_right _ (by omega)⟩ := by
  rw [Fin.sum_univ_tiles J T hN]
  refine Finset.sum_eq_single p (fun j _ hj => ?_) (by simp)
  exact Finset.sum_eq_zero fun t _ => by rw [hw j t _ hj, mul_zero]

end Cert.Model

end
-- ==== Proof.Payload.lean ====
module

public import proofs.«01_k».proof.Proof.Model
public import proofs.«01_k».proof.Proof.Gen.KernelIdeal.Skeleton
public import Idealize.ShloMosaic.Lib.Pointwise

/-!
# What one block computes

The kernel keeps the four neighbours of a point side by side in one row of 128 lanes, 32 lanes each.
Its weight matrices are block diagonal, so every lane sees its own neighbour only; rolling the row
by 32 and 64 lanes visits the other three neighbours; and the last product adds the four lanes of a
channel up.
-/

@[expose] public section

set_option maxRecDepth 16384

noncomputable section

namespace Cert.KernelIdeal.Payload

open Cert.KernelIdeal Cert.KernelIdeal.Gen Idealize.ShloMosaic

/-- The lane of channel `c` of neighbour `p`. -/
def lane (p : Fin 4) (c : Fin 32) : Fin 128 := ⟨p.val * 32 + c.val, by omega⟩

/-- The lane 32 before, around the end, is the neighbour before. -/
theorem lane_back32 (p : Fin 4) (c : Fin 32) : ((lane p c).val + 128 - 32) % 128 = (lane (p + 3) c).val := by
  obtain ⟨c, hc⟩ := c
  fin_cases p <;> simp only [lane] <;> simp <;> omega

/-- The lane 64 before, around the end, is two neighbours back. -/
theorem lane_back64 (p : Fin 4) (c : Fin 32) : ((lane p c).val + 128 - 64) % 128 = (lane (p + 2) c).val := by
  obtain ⟨c, hc⟩ := c
  fin_cases p <;> simp only [lane] <;> simp <;> omega

/-- Rolling by 32 lanes moves to the neighbour before. -/
theorem roll32 (x : FVec Ideal S8000x128 .f32) (r : Fin 8000) (p : Fin 4) (c : Fin 32) :
    dynamicRotate 1 32#32 none x rotates_S8000x128_d1 (ix2 r (lane p c)) = x (ix2 r (lane (p + 3) c)) := by
  have h := lane_back32 p c
  generalize lane p c = l, lane (p + 3) c = l' at h ⊢
  pointwise
  exact congrArg x (congrArg (ix2 r) (Fin.ext h))

/-- Rolling by 64 lanes moves two neighbours back. -/
theorem roll64 (x : FVec Ideal S8000x128 .f32) (r : Fin 8000) (p : Fin 4) (c : Fin 32) :
    dynamicRotate 1 64#32 none x rotates_S8000x128_d1 (ix2 r (lane p c)) = x (ix2 r (lane (p + 2) c)) := by
  have h := lane_back64 p c
  generalize lane p c = l, lane (p + 2) c = l' at h ⊢
  pointwise
  exact congrArg x (congrArg (ix2 r) (Fin.ext h))

/-- The rolled maximum is the maximum over the four neighbours. -/
theorem max_rolls (g : Fin 4 → EReal) (p : Fin 4) :
    max (max (g p) (g (p + 3))) (max (g (p + 2)) (g (p + 2 + 3))) = Finset.univ.fold max ⊥ g := by
  have h : Finset.univ.fold max ⊥ g = max (g 0) (max (g 1) (max (g 2) (g 3))) := by
    simp [Fin.univ_succ]
  rw [h]
  match p with
  | 0 => change max (max (g 0) (g 3)) (max (g 2) (g 1)) = _; generalize g 0 = a, g 1 = b, g 2 = c, g 3 = d; ac_rfl
  | 1 => change max (max (g 1) (g 0)) (max (g 3) (g 2)) = _; generalize g 0 = a, g 1 = b, g 2 = c, g 3 = d; ac_rfl
  | 2 => change max (max (g 2) (g 1)) (max (g 0) (g 3)) = _; generalize g 0 = a, g 1 = b, g 2 = c, g 3 = d; ac_rfl
  | 3 => change max (max (g 3) (g 2)) (max (g 1) (g 0)) = _; generalize g 0 = a, g 1 = b, g 2 = c, g 3 = d; ac_rfl

/-- The rolled sum is the sum over the four neighbours. -/
theorem sum_rolls (g : Fin 4 → EReal) (p : Fin 4) :
    (g p + g (p + 2)) + (g (p + 3) + g (p + 3 + 2)) = ∑ p, g p := by
  rw [Fin.sum_univ_four]
  match p with
  | 0 => change (g 0 + g 2) + (g 3 + g 1) = _; generalize g 0 = a, g 1 = b, g 2 = c, g 3 = d; ac_rfl
  | 1 => change (g 1 + g 3) + (g 0 + g 2) = _; generalize g 0 = a, g 1 = b, g 2 = c, g 3 = d; ac_rfl
  | 2 => change (g 2 + g 0) + (g 1 + g 3) = _; generalize g 0 = a, g 1 = b, g 2 = c, g 3 = d; ac_rfl
  | 3 => change (g 3 + g 1) + (g 2 + g 0) = _; generalize g 0 = a, g 1 = b, g 2 = c, g 3 = d; ac_rfl

/-- A product with a 0/1 column that selects one channel is the sum over the neighbours. -/
theorem sum_select (g w : Fin 128 → EReal) (o : Fin 32)
    (hw : ∀ p c, w (lane p c) = if c = o then 1 else 0) :
    ∑ k, g k * w k = ∑ p, g (lane p o) := by
  rw [Fin.sum_univ_tiles 4 32 rfl]
  refine Finset.sum_congr rfl fun p _ => ?_
  rw [Finset.sum_eq_single o]
  · change g (lane p o) * w (lane p o) = _
    rw [hw, if_pos rfl, mul_one]
  · intro c _ hc
    change g (lane p c) * w (lane p c) = _
    rw [hw, if_neg hc, mul_zero]
  · simp

section
variable (v0 : Vec Ideal S8000x12 .bf16) (v2 : Vec Ideal S12x256 .bf16) (v5 : Vec Ideal S1x256 .f32)
  (v12 : Vec Ideal S256x128 .bf16) (v15 v19 : Vec Ideal S1x128 .f32) (v40 : Vec Ideal S128x32 .f32)

/-- The four features of a row, from what the blocks hold. The hypotheses say: the points' block holds
    the neighbours side by side (`hx`); the weight matrices are block diagonal (`hw1`, `hw2`); the
    biases are repeated once per neighbour, the first one with the position's share added (`hb1`, `hb2`). -/
theorem pay2_at (r : Fin 8000) (x : Fin 4 → Fin 3 → EReal) (pe : Fin 4 → Fin 8 → EReal)
    (w1 : Fin 11 → Fin 64 → EReal) (b1 : Fin 64 → EReal) (w2 : Fin 64 → Fin 32 → EReal) (b2 : Fin 32 → EReal)
    (hx : ∀ p d, v0 (ix2 r ⟨p.val * 3 + d.val, by omega⟩) = x p d)
    (hw1 : ∀ (j p : Fin 4) (d : Fin 3) (u : Fin 64),
      v2 (ix2 ⟨j.val * 3 + d.val, by omega⟩ ⟨p.val * 64 + u.val, by omega⟩)
        = if j = p then w1 ⟨d.val, by omega⟩ u else 0)
    (hb1 : ∀ (p : Fin 4) (u : Fin 64), v5 (ix2 0 ⟨p.val * 64 + u.val, by omega⟩)
        = (∑ q : Fin 8, pe p q * w1 ⟨3 + q.val, by omega⟩ u) + b1 u)
    (hw2 : ∀ (j p : Fin 4) (u : Fin 64) (c : Fin 32),
      v12 (ix2 ⟨j.val * 64 + u.val, by omega⟩ (lane p c)) = if j = p then w2 u c else 0)
    (hb2 : ∀ p c, v15 (ix2 0 (lane p c)) = b2 c) (p : Fin 4) (c : Fin 32) :
    k0_pay2 v0 v2 v5 v12 v15 (ix2 r (lane p c))
      = Model.feat (Model.hidden (x p) (pe p) w1 b1) (fun u => w2 u c) (b2 c) := by
  pointwise [k0_pay2]
  rw [hb2, Model.sum_blockdiag 4 64 rfl p
    (fun k => max (∑ i, v0 (ix2 r i) * v2 (ix2 i k) + v5 (ix2 0 k)) 0) (fun k => v12 (ix2 k (lane p c)))
    (fun j u _ hj => by rw [hw2, if_neg hj])]
  unfold Model.feat
  refine congrArg (· + b2 c) (Finset.sum_congr rfl fun u _ => ?_)
  dsimp only
  rw [hw2, if_pos rfl, hb1, Model.sum_blockdiag 4 3 rfl p
    (fun i => v0 (ix2 r i)) (fun i => v2 (ix2 i ⟨p.val * 64 + u.val, by omega⟩))
    (fun j d _ hj => by rw [hw1, if_neg hj])]
  simp only [hx, hw1, if_true, Model.hidden]

/-- A row's maximum over the neighbours, by two rolls. -/
theorem max_row (x : FVec Ideal S8000x128 .f32) (r : Fin 8000) (c : Fin 32) (g : Fin 4 → EReal)
    (hx : ∀ p, x (ix2 r (lane p c)) = g p) (p : Fin 4) :
    maximumf (maximumf x (dynamicRotate 1 32#32 none x rotates_S8000x128_d1))
      (dynamicRotate 1 64#32 none (maximumf x (dynamicRotate 1 32#32 none x rotates_S8000x128_d1))
        rotates_S8000x128_d1) (ix2 r (lane p c)) = Finset.univ.fold max ⊥ g := by
  have h : ∀ p, maximumf x (dynamicRotate 1 32#32 none x rotates_S8000x128_d1) (ix2 r (lane p c))
      = max (g p) (g (p + 3)) := fun p => by
    rw [ValueIdx.maximumf_apply, roll32, hx, hx]
  rw [ValueIdx.maximumf_apply, roll64, h, h, max_rolls]

/-- A row's sum over the neighbours, by two rolls. -/
theorem sum_row (x : FVec Ideal S8000x128 .f32) (r : Fin 8000) (c : Fin 32) (g : Fin 4 → EReal)
    (hx : ∀ p, x (ix2 r (lane p c)) = g p) (p : Fin 4) :
    addf (addf x (dynamicRotate 1 64#32 none x rotates_S8000x128_d1))
      (dynamicRotate 1 32#32 none (addf x (dynamicRotate 1 64#32 none x rotates_S8000x128_d1))
        rotates_S8000x128_d1) (ix2 r (lane p c)) = ∑ p, g p := by
  have h : ∀ p, addf x (dynamicRotate 1 64#32 none x rotates_S8000x128_d1) (ix2 r (lane p c))
      = g p + g (p + 2) := fun p => by
    rw [ValueIdx.addf_apply, roll64, hx, hx]
  rw [ValueIdx.addf_apply, roll32, h, h, sum_rolls]

/-- The weighted features of a row over its softmax denominator, from the row's four features. -/
theorem pay3_at (r : Fin 8000) (c : Fin 32) (t : EReal) (f : Fin 4 → EReal)
    (hf : ∀ p, k0_pay2 v0 v2 v5 v12 v15 (ix2 r (lane p c)) = f p)
    (ht : ∀ p, v19 (ix2 0 (lane p c)) = t) (p : Fin 4) :
    k0_pay3 v0 v2 v5 v12 v15 v19 (ix2 r (lane p c)) = Ideal.div (f p * Model.wt f t p) (Model.den f t) := by
  have hs : ∀ p, mulf (k0_pay2 v0 v2 v5 v12 v15) (broadcastTo S8000x128 (shapeCast S1x128 v19
      shapeCasts_S1x128_S1x128) broadcasts_S1x128_S8000x128) (ix2 r (lane p c)) = f p * t := fun p => by
    pointwise
    rw [hf, ht]
  have hm := max_row _ r c _ hs
  have he := sum_row (exp (subf (mulf (k0_pay2 v0 v2 v5 v12 v15) _) _)) r c (Model.wt f t) fun p => congrArg Ideal.exp (congrArg₂ (· - ·) (hs p) (hm p))
  exact congrArg₂ Ideal.div (congrArg₂ (· * ·) (hf p) (congrArg Ideal.exp (congrArg₂ (· - ·) (hs p) (hm p))))
    (congrArg₂ (· + ·) (he p) Model.ofBits_eps)

/-- The block's result, from the lanes of its rows and a 0/1 matrix that adds a channel's lanes. -/
theorem pay1_at (a b d : FVec Ideal S8000x128 .f32) (r : Fin 8000) (o : Fin 32)
    (hw : ∀ p c, v40 (ix2 (lane p c) o) = if c = o then 1 else 0) :
    k0_pay1 a b d v40 (ix2 r o)
      = ∑ p, (b (ix2 r (lane p o)) + a (ix2 r (lane p o)) * d (ix2 r (lane p o))) := by
  pointwise [k0_pay1]
  exact sum_select (fun k => b (ix2 r k) + a (ix2 r k) * d (ix2 r k)) (fun k => v40 (ix2 k o)) o hw

/-- The averaging constant stands for the exact `1 / (4 + 1e-16)`. -/
theorem pay4_at (r : Fin 8000) (l : Fin 128) :
    k0_pay4 (F := Ideal) (ix2 r l) = Model.quarter := by
  pointwise [k0_pay4]
  exact IdealRules.named_const.ideal_named_scalar _ _ _ _ rfl

/-- One row of a block's result: the pooled features of that row's four neighbours. -/
theorem block_at (r : Fin 8000) (o : Fin 32) (x : Fin 4 → Fin 3 → EReal) (pe : Fin 4 → Fin 8 → EReal)
    (w1 : Fin 11 → Fin 64 → EReal) (b1 : Fin 64 → EReal) (w2 : Fin 64 → Fin 32 → EReal) (b2 t : Fin 32 → EReal)
    (hx : ∀ p d, v0 (ix2 r ⟨p.val * 3 + d.val, by omega⟩) = x p d)
    (hw1 : ∀ (j p : Fin 4) (d : Fin 3) (u : Fin 64),
      v2 (ix2 ⟨j.val * 3 + d.val, by omega⟩ ⟨p.val * 64 + u.val, by omega⟩)
        = if j = p then w1 ⟨d.val, by omega⟩ u else 0)
    (hb1 : ∀ (p : Fin 4) (u : Fin 64), v5 (ix2 0 ⟨p.val * 64 + u.val, by omega⟩)
        = (∑ q : Fin 8, pe p q * w1 ⟨3 + q.val, by omega⟩ u) + b1 u)
    (hw2 : ∀ (j p : Fin 4) (u : Fin 64) (c : Fin 32),
      v12 (ix2 ⟨j.val * 64 + u.val, by omega⟩ (lane p c)) = if j = p then w2 u c else 0)
    (hb2 : ∀ p c, v15 (ix2 0 (lane p c)) = b2 c)
    (ht : ∀ p c, v19 (ix2 0 (lane p c)) = t c)
    (hs : ∀ p c, v40 (ix2 (lane p c) o) = if c = o then 1 else 0) :
    k0_pay1 (k0_pay2 v0 v2 v5 v12 v15) (k0_pay3 v0 v2 v5 v12 v15 v19) (k0_pay4 (F := Ideal)) v40 (ix2 r o)
      = Model.pooled (fun p => Model.feat (Model.hidden (x p) (pe p) w1 b1) (fun u => w2 u o) (b2 o)) (t o) := by
  have hf := fun p => pay2_at v0 v2 v5 v12 v15 r x pe w1 b1 w2 b2 hx hw1 hb1 hw2 hb2 p o
  rw [pay1_at v40 _ _ _ r o hs]
  refine Finset.sum_congr rfl fun p _ => ?_
  rw [pay3_at v0 v2 v5 v12 v15 v19 r o (t o) _ hf (fun p => ht p o) p, hf, pay4_at]
end

end Cert.KernelIdeal.Payload
end
-- ==== Proof.Operands.lean ====
module

public import proofs.«01_k».proof.Proof.Payload
public import proofs.«01_k».proof.Proof.Gen.KernelIdeal.Value
public import Idealize.ShloMosaic.Lib.Claim

/-!
# What the host hands the kernel

The arrays the windows stage, read at an index: the points with a row's twelve coordinates side by
side, the two block-diagonal weight matrices, the biases and the temperature repeated per neighbour,
and the 0/1 matrix that adds a channel's four lanes.
-/

@[expose] public section

set_option maxRecDepth 16384
set_option maxHeartbeats 800000

noncomputable section

namespace Cert.KernelIdeal.Operands

open Cert.KernelIdeal Cert.KernelIdeal.Gen Idealize.ShloMosaic Idealize.ShloMosaic.TcCoe Idealize.SL.Sem
open Cert.KernelIdeal.Payload (lane)

/-- An identity matrix made by comparing two counters is 1 on the diagonal and 0 off it. -/
theorem eye_entry (a b : ℕ) (ha : a < 2 ^ 32) (hb : b < 2 ^ 32) :
    (FloatOps.uitofp (F := Ideal) .f32
      (IntOp.cmpi .eq (IntOp.addi (BitVec.ofNat 32 a) 0#32) (BitVec.ofNat 32 b)) : EReal) = if a = b then 1 else 0 := by
  have h : BitVec.ofNat 32 a = BitVec.ofNat 32 b ↔ a = b := by
    rw [← BitVec.toNat_inj, BitVec.toNat_ofNat, BitVec.toNat_ofNat, Nat.mod_eq_of_lt ha, Nat.mod_eq_of_lt hb]
  by_cases hab : a = b
  · subst hab
    simp [IntOp.cmpi, IntOp.addi, FloatOps.uitofp]
  · have hne : ¬ BitVec.ofNat 32 a = BitVec.ofNat 32 b := fun e => hab (h.mp e)
    simp only [IntOp.cmpi, IntOp.addi, BitVec.add_zero, if_neg hab]
    simp [hne, FloatOps.uitofp]

/-- A value scaled by an entry of the identity matrix is itself on the diagonal and zero off it. -/
theorem eye_mul (j p : Fin 4) (x : EReal) :
    (FloatOps.uitofp (F := Ideal) .f32
      (IntOp.cmpi .eq (IntOp.addi (BitVec.ofNat 32 j.val) 0#32) (BitVec.ofNat 32 p.val)) : EReal) * x
      = if j = p then x else 0 := by
  rw [eye_entry _ _ (by omega) (by omega)]
  by_cases h : j = p
  · rw [if_pos (congrArg Fin.val h), if_pos h, one_mul]
  · rw [if_neg (fun e => h (Fin.ext e)), if_neg h, zero_mul]

theorem lane_div (p : Fin 4) (o : Fin 32) : (lane p o).val / 32 = p.val := by simp only [lane]; omega
theorem lane_mod (p : Fin 4) (o : Fin 32) : (lane p o).val % 32 = o.val := by simp only [lane]; omega

variable (m : (ℓ : Loc nD τ sig) → Buf (Elt Ideal) ℓ) (c : Dev nD)

/-- The arguments, typed. -/
abbrev arg0 : FVec Ideal S200000x4x3 .f32 := m ((c : Thread nD τ).loc main_arg0)
abbrev arg1 : FVec Ideal S4x8 .f32 := m ((c : Thread nD τ).loc main_arg1)
abbrev arg2 : FVec Ideal S11x64 .f32 := m ((c : Thread nD τ).loc main_arg2)
abbrev arg3 : FVec Ideal S64 .f32 := m ((c : Thread nD τ).loc main_arg3)
abbrev arg4 : FVec Ideal S64x32 .f32 := m ((c : Thread nD τ).loc main_arg4)
abbrev arg5 : FVec Ideal S32 .f32 := m ((c : Thread nD τ).loc main_arg5)
abbrev arg6 : FVec Ideal S32 .f32 := m ((c : Thread nD τ).loc main_arg6)

/-- The staged points: coordinate `d` of neighbour `p`. -/
theorem points_at (i : Fin 200000) (p : Fin 4) (d : Fin 3) :
    (V m c main_v1 (ix2 i ⟨p.val * 3 + d.val, by omega⟩) : EReal)
      = arg0 m c (ix3 i p d) := by
  simp only [V, hostOps0, hostOps0_1, hostOps0_2, hostOps0_3, hostOps0_4, hostOps0_5, List.flatten_cons,
    List.flatten_nil, List.append_nil, List.cons_append, List.nil_append]
  entry_read
  pointwise
  refine congrArg (arg0 m c) ?_
  congr 1 <;> exact Fin.ext (by dsimp only; omega)

/-- The first layer's matrix: the coordinates' rows of `W1`, once per neighbour, on the diagonal. -/
theorem weights1_at (j p : Fin 4) (d : Fin 3) (u : Fin 64) :
    (V m c main_v10 (ix2 ⟨j.val * 3 + d.val, by omega⟩ ⟨p.val * 64 + u.val, by omega⟩) : EReal)
      = if j = p then arg2 m c (ix2 ⟨d.val, by omega⟩ u) else (0 : EReal) := by
  simp only [V, hostOps0, hostOps0_1, hostOps0_2, hostOps0_3, hostOps0_4, hostOps0_5, List.flatten_cons,
    List.flatten_nil, List.append_nil, List.cons_append, List.nil_append]
  entry_read
  simp only [StableHlo.TRef.ofBuf_toBuf, StableHlo.TRef.ofBuf, StableHlo.TRef.toBuf, cast_eq]
  pointwise
  have h1 : (j.val * 3 + d.val) / 3 = j.val := by omega
  have h2 : (j.val * 3 + d.val) % 3 = d.val := by omega
  have h3 : (p.val * 64 + u.val) / 64 = p.val := by omega
  have h4 : (p.val * 64 + u.val) % 64 = u.val := by omega
  simp only [h1, h2, h3, h4]
  exact eye_mul j p _

/-- The second layer's matrix: `W2`, once per neighbour, on the diagonal. -/
theorem weights2_at (j p : Fin 4) (u : Fin 64) (o : Fin 32) :
    (V m c main_v18 (ix2 ⟨j.val * 64 + u.val, by omega⟩ (lane p o)) : EReal)
      = if j = p then arg4 m c (ix2 u o) else (0 : EReal) := by
  simp only [V, hostOps0, hostOps0_1, hostOps0_2, hostOps0_3, hostOps0_4, hostOps0_5, List.flatten_cons,
    List.flatten_nil, List.append_nil, List.cons_append, List.nil_append]
  entry_read
  simp only [StableHlo.TRef.ofBuf_toBuf, StableHlo.TRef.ofBuf, StableHlo.TRef.toBuf, cast_eq]
  pointwise
  have h1 : (j.val * 64 + u.val) / 64 = j.val := by omega
  have h2 : (j.val * 64 + u.val) % 64 = u.val := by omega
  simp only [h1, h2, lane_div, lane_mod]
  exact eye_mul j p _

/-- The first bias, with the position's share of the first layer added. -/
theorem bias1_at (p : Fin 4) (u : Fin 64) :
    (V m c main_v16 (ix2 0 ⟨p.val * 64 + u.val, by omega⟩) : EReal)
      = (∑ q : Fin 8, arg1 m c (ix2 p q)
          * arg2 m c (ix2 ⟨3 + q.val, by omega⟩ u))
        + arg3 m c (ix1 u) := by
  simp only [V, hostOps0, hostOps0_1, hostOps0_2, hostOps0_3, hostOps0_4, hostOps0_5, List.flatten_cons,
    List.flatten_nil, List.append_nil, List.cons_append, List.nil_append]
  entry_read
  pointwise

/-- The second bias, repeated per neighbour. -/
theorem bias2_at (p : Fin 4) (o : Fin 32) :
    (V m c main_v22 (ix2 0 (lane p o)) : EReal) = arg5 m c (ix1 o) := by
  simp only [V, hostOps0, hostOps0_1, hostOps0_2, hostOps0_3, hostOps0_4, hostOps0_5, List.flatten_cons,
    List.flatten_nil, List.append_nil, List.cons_append, List.nil_append]
  entry_read
  pointwise
  simp only [lane_mod]

/-- The temperature, repeated per neighbour. -/
theorem temperature_at (p : Fin 4) (o : Fin 32) :
    (V m c main_v26 (ix2 0 (lane p o)) : EReal) = arg6 m c (ix1 o) := by
  simp only [V, hostOps0, hostOps0_1, hostOps0_2, hostOps0_3, hostOps0_4, hostOps0_5, List.flatten_cons,
    List.flatten_nil, List.append_nil, List.cons_append, List.nil_append]
  entry_read
  pointwise
  simp only [lane_mod]

/-- The 0/1 matrix that adds a channel's four lanes. -/
theorem select_at (p : Fin 4) (q o : Fin 32) :
    (V m c main_v34 (ix2 (lane p q) o) : EReal) = if q = o then (1 : EReal) else 0 := by
  simp only [V, hostOps0, hostOps0_1, hostOps0_2, hostOps0_3, hostOps0_4, hostOps0_5, List.flatten_cons,
    List.flatten_nil, List.append_nil, List.cons_append, List.nil_append]
  entry_read
  simp only [StableHlo.TRef.ofBuf_toBuf, StableHlo.TRef.ofBuf, StableHlo.TRef.toBuf, cast_eq]
  pointwise
  simp only [lane_mod]
  rw [eye_entry q.val o.val (by omega) (by omega)]
  by_cases h : q = o
  · rw [if_pos (congrArg Fin.val h), if_pos h]
  · rw [if_neg (fun e => h (Fin.ext e)), if_neg h]

end Cert.KernelIdeal.Operands
end
-- ==== Proof.Final.lean ====
module

public import proofs.«01_k».proof.Proof.Operands
public import Idealize.ShloMosaic.Lib.Pipeline.ValueKit

/-!
# What the kernel's result array holds

Grid point `t` reads rows `8000 t …` of the points and the other operands whole, and writes the same
rows of the result; the 25 blocks tile it.
-/

@[expose] public section

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Cert.KernelIdeal.Operands

variable (m : (ℓ : Loc nD τ sig) → Buf (Elt Ideal) ℓ) (c : Dev nD)

/-- The features of point `n`'s four neighbours at channel `o`, from the arguments. -/
def feats (n : Fin 200000) (o : Fin 32) (p : Fin 4) : EReal :=
  Model.feat (Model.hidden (fun d => arg0 m c (ix3 n p d)) (fun q => arg1 m c (ix2 p q))
    (fun k u => arg2 m c (ix2 k u)) (fun u => arg3 m c (ix1 u))) (fun u => arg4 m c (ix2 u o)) (arg5 m c (ix1 o))

/-- The pooled features of every point. -/
def out : FVec Ideal S200000x32 .f32 := fun i => Model.pooled (feats m c (i 0) (i 1)) (arg6 m c (ix1 (i 1)))

/-- The blocks' places: the points and the result move with the grid point, the rest stays. -/
theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![t.val, 0] ∧ t.val < 25 :=
  (by decide +kernel : ∀ t : Fin grid0.N, _)

/-- Row `r` of the points' block at `t` is row `8000 t + r` of the points. -/
theorem rows (t : Fin cfg0.N) (r : Fin 8000) (l : Fin 12) (h : t.val * 8000 + r.val < 200000) :
    (iblk m c 0 t : Vec Ideal S8000x12 .bf16) (ix2 r l)
      = (V m c main_v1 : Vec Ideal S200000x12 .bf16) (ix2 ⟨t.val * 8000 + r.val, h⟩ l) := by
  blk_ext [iblk, idx t]

theorem whole1 (t : Fin cfg0.N) : (iblk m c 1 t : Vec Ideal S12x256 .bf16) = V m c main_v10 := by
  funext y; blk_ext [iblk, idx t]
theorem whole2 (t : Fin cfg0.N) : (iblk m c 2 t : Vec Ideal S1x256 .f32) = V m c main_v16 := by
  funext y; blk_ext [iblk, idx t]
theorem whole3 (t : Fin cfg0.N) : (iblk m c 3 t : Vec Ideal S256x128 .bf16) = V m c main_v18 := by
  funext y; blk_ext [iblk, idx t]
theorem whole4 (t : Fin cfg0.N) : (iblk m c 4 t : Vec Ideal S1x128 .f32) = V m c main_v22 := by
  funext y; blk_ext [iblk, idx t]
theorem whole5 (t : Fin cfg0.N) : (iblk m c 5 t : Vec Ideal S1x128 .f32) = V m c main_v26 := by
  funext y; blk_ext [iblk, idx t]
theorem whole6 (t : Fin cfg0.N) : (iblk m c 6 t : Vec Ideal S128x32 .f32) = V m c main_v34 := by
  funext y; blk_ext [iblk, idx t]

/-- What the body computes at grid point `t`, row `r` and channel `o`. -/
theorem point (t : Fin cfg0.N) (r : Fin 8000) (o : Fin 32) (h : t.val * 8000 + r.val < 200000) :
    k0_pay1 (k0_pay2 (iblk m c 0 t) (iblk m c 1 t) (iblk m c 2 t) (iblk m c 3 t) (iblk m c 4 t))
      (k0_pay3 (iblk m c 0 t) (iblk m c 1 t) (iblk m c 2 t) (iblk m c 3 t) (iblk m c 4 t) (iblk m c 5 t))
      (k0_pay4 (F := Ideal)) (iblk m c 6 t) (ix2 r o)
      = out m c (ix2 ⟨t.val * 8000 + r.val, h⟩ o) := by
  refine (Payload.block_at _ _ _ _ _ _ _ r o
    (fun p d => arg0 m c (ix3 ⟨t.val * 8000 + r.val, h⟩ p d)) (fun p q => arg1 m c (ix2 p q))
    (fun k u => arg2 m c (ix2 k u)) (fun u => arg3 m c (ix1 u)) (fun u q => arg4 m c (ix2 u q))
    (fun q => arg5 m c (ix1 q)) (fun q => arg6 m c (ix1 q)) ?_ ?_ ?_ ?_ ?_ ?_ ?_).trans rfl
  · exact fun p d => (rows m c t r _ h).trans (points_at m c _ p d)
  · exact fun j p d u => (congrFun (whole1 m c t) _).trans (weights1_at m c j p d u)
  · exact fun p u => (congrFun (whole2 m c t) _).trans (bias1_at m c p u)
  · exact fun j p u q => (congrFun (whole3 m c t) _).trans (weights2_at m c j p u q)
  · exact fun p q => (congrFun (whole4 m c t) _).trans (bias2_at m c p q)
  · exact fun p q => (congrFun (whole5 m c t) _).trans (temperature_at m c p q)
  · exact fun p q => (congrFun (whole6 m c t) _).trans (select_at m c p q o)

/-- The result array after the run. -/
theorem final : (dats m 0 c).arrAt 7 cfg0.N = out m c := by
  refine (dats m 0 c).arrAt_eq_of_covers 7 _ (by decide +kernel) fun t _ y => ?_
  blk_simp
  rw [after0_7]; frame_out
  have ht : t.val < 25 := (idx t).2.2.2.2.2.2.2.2
  idx_vars y
  refine (point m c t _ _ (by omega)).trans ?_
  blk_ext [idx t]

end Cert.KernelIdeal.Final
end
-- ==== Proof.RefValue.lean ====
module

public import proofs.«01_k».proof.Proof.Model
public import proofs.«01_k».proof.Proof.Gen.ReferenceIdeal.Read
public import Idealize.ShloMosaic.Lib.Pointwise

/-!
# What the reference computes

The result of the reference at a point and a channel is the softmax aggregation at the temperature
`t_max` plus the one at `t_avg`, over the four neighbours' features.
-/

@[expose] public section

set_option maxRecDepth 16384

noncomputable section

namespace Cert.ReferenceIdeal.RefValue

open Cert.ReferenceIdeal Cert.ReferenceIdeal.Gen Cert.ReferenceIdeal.Read Idealize.ShloMosaic

variable (x : FVec Ideal S200000x4x3 .f32) (pe : FVec Ideal S4x8 .f32) (w1 : FVec Ideal S11x64 .f32)
  (b1 : FVec Ideal S64 .f32) (w2 : FVec Ideal S64x32 .f32) (b2 t s : FVec Ideal S32 .f32)

/-- The model's features of point `n`: its four neighbours at channel `o`. -/
def feats (n : Fin 200000) (o : Fin 32) (p : Fin 4) : EReal :=
  Model.feat (Model.hidden (fun d => x (ix3 n p d)) (fun q => pe (ix2 p q)) (fun k u => w1 (ix2 k u))
    (fun u => b1 (ix1 u))) (fun u => w2 (ix2 u o)) (b2 (ix1 o))

theorem hid_at (n : Fin 200000) (p : Fin 4) (u : Fin 64) :
    val_main_v8 (F := Ideal) x pe w1 b1 (ix3 n p u)
      = Model.hidden (fun d => x (ix3 n p d)) (fun q => pe (ix2 p q)) (fun k u => w1 (ix2 k u))
          (fun u => b1 (ix1 u)) u := by
  pointwise [val_main_v8, val_main_v6, val_main_v3, val_main_v5, val_main_v4, val_main_v2,
    val_main_v1, val_main_v0, val_main_v7, val_main_cst]
  rw [add_assoc]
  rfl

theorem feat_at (n : Fin 200000) (p : Fin 4) (o : Fin 32) :
    val_main_v12 (F := Ideal) x pe w1 b1 w2 b2 (ix3 n p o) = feats x pe w1 b1 w2 b2 n o p := by
  pointwise [val_main_v12, val_main_v11, val_main_v10, val_main_v9]
  simp only [hid_at]
  rfl

theorem out_at (n : Fin 200000) (o : Fin 32) :
    val_main_v45 (F := Ideal) x pe w1 b1 w2 b2 t s (ix2 n o)
      = Model.agg (feats x pe w1 b1 w2 b2 n o) (t (ix1 o))
        + Model.agg (feats x pe w1 b1 w2 b2 n o) (s (ix1 o)) := by
  pointwise [val_main_v13, val_main_v14, val_main_v15, val_main_v16, val_main_v17, val_main_v18,
    val_main_v19, val_main_v20, val_main_v21, val_main_v22, val_main_v23, val_main_v24, val_main_v25,
    val_main_v26, val_main_v27, val_main_v28, val_main_v29, val_main_v30, val_main_v31, val_main_v32,
    val_main_v33, val_main_v34, val_main_v35, val_main_v36, val_main_v37, val_main_v38, val_main_v39,
    val_main_v40, val_main_v41, val_main_v42, val_main_v43, val_main_v44, val_main_v45, val_main_cst_0,
    val_main_cst_1, val_main_cst_2, val_main_cst_3, val_main_cst_4, val_main_cst_5, val_main_cst_6,
    val_main_cst_7]
  simp only [feat_at, Model.ofBits_eps, Model.ofBits_neg_inf]
  rfl

/-- With `t_avg` zero the second aggregation is a mean, and the sum is the pooled feature. -/
theorem out_pooled (hs : ∀ i, s i = 0) (n : Fin 200000) (o : Fin 32) :
    val_main_v45 (F := Ideal) x pe w1 b1 w2 b2 t s (ix2 n o)
      = Model.pooled (feats x pe w1 b1 w2 b2 n o) (t (ix1 o)) := by
  rw [out_at, hs, Model.agg_add_agg_zero]

end Cert.ReferenceIdeal.RefValue
end
-- ==== Proof.Claims.lean ====
module

public import proofs.«01_k».proof.Defs
public import proofs.«01_k».proof.Proof.Gen.Kernel
public import proofs.«01_k».proof.Proof.Gen.Kernel.Frame
public import proofs.«01_k».proof.Proof.Gen.ReferenceIdeal.Run
public import proofs.«01_k».proof.Proof.Gen.Pre_average_temperature_zero
public import proofs.«01_k».proof.Proof.Final
public import proofs.«01_k».proof.Proof.RefValue
public import Idealize.ShloMosaic.Lib.Quiescent

/-!
# The claims, one by one

The frames and the named constant come from the generated runs; the value claim sets the kernel's
array (`Final`) beside the reference's (`RefValue`) where `t_avg` is zero.
-/

@[expose] public section

set_option maxRecDepth 16384

noncomputable section

namespace Cert.Proof.Claims

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_average_temperature_zero :=
  fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_average_temperature_zero :=
  fun m ρ _ => frame_reference m ρ trivial

/-- The kernel's `0.25` is the float nearest to `1 / (4 + 1e-16)`, the value it stands for. -/
theorem preserves : Cert.preserves_Kernel_KernelIdeal :=
  IdealRules.named_const.statement Cert.KernelIdeal.κ "quarter" .f32 0x3E800000#32
    ((151115727451828646838272 / 604462909807314602464661 : ℝ) : EReal) rfl

/-- Where the precondition is all ones the average's temperature is zero. -/
theorem average_zero (x : FVec Ideal Cert.KernelIdeal.S200000x4x3 .f32) (pe : FVec Ideal Cert.KernelIdeal.S4x8 .f32)
    (w1 : FVec Ideal Cert.KernelIdeal.S11x64 .f32) (b1 : FVec Ideal Cert.KernelIdeal.S64 .f32)
    (w2 : FVec Ideal Cert.KernelIdeal.S64x32 .f32) (b2 t s : FVec Ideal Cert.KernelIdeal.S32 .f32)
    (h : Cert.Pre_average_temperature_zero.fn (F := Ideal) x pe w1 b1 w2 b2 t s = fun _ => 1#1)
    (i : Cert.KernelIdeal.S32.Idx) : s i = 0 := by
  have e := congrFun h i
  by_contra hne
  revert e
  pointwise [Cert.Pre_average_temperature_zero.fn]
  simp [Ideal.cmp, hne]

/-- The kernel and the reference leave the same array. -/
theorem algebraic : Cert.algebraic_KernelIdeal_ReferenceIdeal_pre_average_temperature_zero := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  refine Eq.trans ?_ (Cert.KernelIdeal.Final.final m c).symm
  funext i
  idx_vars i
  exact Cert.ReferenceIdeal.RefValue.out_pooled _ _ _ _ _ _ _ _ (average_zero _ _ _ _ _ _ _ _ (hpre c)) _ _

end Cert.Proof.Claims

end
-- ==== Proof.lean ====
/- The claims of this certificate, put together: the frames, the named constant, and the equality of the
   kernel's result with the reference's where `t_avg` is zero. Each is proved in `Proof/Claims.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_average_temperature_zero
public import proofs.«01_k».proof.Proof.Claims
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Pre_average_temperature_zero.Gen.facts,
  Claims.frame_kernel, Claims.frame_ideal, Claims.frame_ideal_pre, Claims.frame_reference, Claims.frame_reference_pre,
  Claims.preserves, Claims.algebraic⟩

end Cert.Proof

end
